-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v10) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16x64x48x512 : Shape := ⟨4, ![16, 64, 48, 512]⟩
abbrev S64x512 : Shape := ⟨2, ![64, 512]⟩
abbrev S48x512 : Shape := ⟨2, ![48, 512]⟩
abbrev S1x64x48x512 : Shape := ⟨4, ![1, 64, 48, 512]⟩
abbrev S64x1x512 : Shape := ⟨3, ![64, 1, 512]⟩
abbrev S1x48x512 : Shape := ⟨3, ![1, 48, 512]⟩
abbrev S64x48x512 : Shape := ⟨3, ![64, 48, 512]⟩

abbrev nBuf : Space → Nat
  | .hbm => 4
  | .vmem => 4
  | .smem => 0
  | _ => 0

abbrev bufTy : (tb : Table) → Fin (tcTables nBuf tb) → BufTy
  | .hbm, ⟨0, _⟩ => ⟨S16x64x48x512, .f32⟩
  | .hbm, ⟨1, _⟩ => ⟨S64x512, .f32⟩
  | .hbm, ⟨2, _⟩ => ⟨S48x512, .f32⟩
  | .hbm, ⟨3, _⟩ => ⟨S16x64x48x512, .f32⟩
  | .local _ .vmem, ⟨0, _⟩ => ⟨S64x512, .f32⟩
  | .local _ .vmem, ⟨1, _⟩ => ⟨S48x512, .f32⟩
  | .local _ .vmem, ⟨2, _⟩ => ⟨S1x64x48x512, .f32⟩
  | .local _ .vmem, ⟨3, _⟩ => ⟨S1x64x48x512, .f32⟩
  | _, _ => ⟨S16x64x48x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S48x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x48x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference.lean ====
abbrev S16x64x48x512 : Shape := ⟨4, ![16, 64, 48, 512]⟩
abbrev S64x512 : Shape := ⟨2, ![64, 512]⟩
abbrev S48x512 : Shape := ⟨2, ![48, 512]⟩
abbrev S64 : Shape := ⟨1, ![64]⟩
abbrev S48 : Shape := ⟨1, ![48]⟩
abbrev S_ : Shape := ⟨0, ![]⟩
abbrev S64x1 : Shape := ⟨2, ![64, 1]⟩
abbrev S1 : Shape := ⟨1, ![1]⟩
abbrev S1x1 : Shape := ⟨2, ![1, 1]⟩
abbrev S48x1 : Shape := ⟨2, ![48, 1]⟩
abbrev S64x1x512 : Shape := ⟨3, ![64, 1, 512]⟩
abbrev S1x48x512 : Shape := ⟨3, ![1, 48, 512]⟩
abbrev S64x48x512 : Shape := ⟨3, ![64, 48, 512]⟩
abbrev S1x64x48x512 : Shape := ⟨4, ![1, 64, 48, 512]⟩

abbrev nBuf : Space → Nat
  | .hbm => 58
  | .vmem => 0
  | .smem => 0
  | _ => 0

abbrev bufTy : (tb : Table) → Fin (tcTables nBuf tb) → BufTy
  | .hbm, ⟨0, _⟩ => ⟨S16x64x48x512, .f32⟩
  | .hbm, ⟨1, _⟩ => ⟨S64x512, .f32⟩
  | .hbm, ⟨2, _⟩ => ⟨S48x512, .f32⟩
  | .hbm, ⟨3, _⟩ => ⟨S64, .i32⟩
  | .hbm, ⟨4, _⟩ => ⟨S48, .i32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S1, .i32⟩
  | .hbm, ⟨14, _⟩ => ⟨S_, .i32⟩
  | .hbm, ⟨15, _⟩ => ⟨S64x1, .i32⟩
  | .hbm, ⟨16, _⟩ => ⟨S64x1, .i1⟩
  | .hbm, ⟨17, _⟩ => ⟨S1x1, .i32⟩
  | .hbm, ⟨18, _⟩ => ⟨S64x1, .i32⟩
  | .hbm, ⟨19, _⟩ => ⟨S64x1, .i1⟩
  | .hbm, ⟨20, _⟩ => ⟨S64x1, .i1⟩
  | .hbm, ⟨21, _⟩ => ⟨S_, .i1⟩
  | .hbm, ⟨22, _⟩ => ⟨S64, .i1⟩
  | .hbm, ⟨23, _⟩ => ⟨S64x512, .f32⟩
  | .hbm, ⟨24, _⟩ => ⟨S64x512, .i1⟩
  | .hbm, ⟨25, _⟩ => ⟨S_, .f32⟩
  | .hbm, ⟨26, _⟩ => ⟨S64x512, .f32⟩
  | .hbm, ⟨27, _⟩ => ⟨S64x512, .f32⟩
  | .hbm, ⟨28, _⟩ => ⟨S_, .i32⟩
  | .hbm, ⟨29, _⟩ => ⟨S48, .i32⟩
  | .hbm, ⟨30, _⟩ => ⟨S48, .i1⟩
  | .hbm, ⟨31, _⟩ => ⟨S_, .i32⟩
  | .hbm, ⟨32, _⟩ => ⟨S48, .i32⟩
  | .hbm, ⟨33, _⟩ => ⟨S48, .i32⟩
  | .hbm, ⟨34, _⟩ => ⟨S48, .i32⟩
  | .hbm, ⟨35, _⟩ => ⟨S48x1, .i32⟩
  | .hbm, ⟨36, _⟩ => ⟨S1, .i32⟩
  | .hbm, ⟨37, _⟩ => ⟨S_, .i32⟩
  | .hbm, ⟨38, _⟩ => ⟨S48x1, .i32⟩
  | .hbm, ⟨39, _⟩ => ⟨S48x1, .i1⟩
  | .hbm, ⟨40, _⟩ => ⟨S1x1, .i32⟩
  | .hbm, ⟨41, _⟩ => ⟨S48x1, .i32⟩
  | .hbm, ⟨42, _⟩ => ⟨S48x1, .i1⟩
  | .hbm, ⟨43, _⟩ => ⟨S48x1, .i1⟩
  | .hbm, ⟨44, _⟩ => ⟨S_, .i1⟩
  | .hbm, ⟨45, _⟩ => ⟨S48, .i1⟩
  | .hbm, ⟨46, _⟩ => ⟨S48x512, .f32⟩
  | .hbm, ⟨47, _⟩ => ⟨S48x512, .i1⟩
  | .hbm, ⟨48, _⟩ => ⟨S_, .f32⟩
  | .hbm, ⟨49, _⟩ => ⟨S48x512, .f32⟩
  | .hbm, ⟨50, _⟩ => ⟨S48x512, .f32⟩
  | .hbm, ⟨51, _⟩ => ⟨S64x1x512, .f32⟩
  | .hbm, ⟨52, _⟩ => ⟨S1x48x512, .f32⟩
  | .hbm, ⟨53, _⟩ => ⟨S64x48x512, .f32⟩
  | .hbm, ⟨54, _⟩ => ⟨S64x48x512, .f32⟩
  | .hbm, ⟨55, _⟩ => ⟨S64x48x512, .f32⟩
  | .hbm, ⟨56, _⟩ => ⟨S1x64x48x512, .f32⟩
  | .hbm, ⟨57, _⟩ => ⟨S16x64x48x512, .f32⟩
  | _, _ => ⟨S16x64x48x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩

abbrev nD : Nat := 1
abbrev τ : Topo := Topo.v7x

variable {F : FTy → Type} [FloatOps F]
-- ==== Proof.PosSum.lean ====
/- What kernel and reference compute: entry (b, h, w, d) of the result is row table (h, d) plus column table (w, d).
   This module names that array (`posSum`), shows that taking all the rows of a table in order gives the table
   (`take_arange`), and that the broadcast, add and broadcast of the two tables is `posSum` (`bcast_sum`).
   Nothing here names a program; everything holds for any float values. -/
module

public import Idealize.ShloMosaic.Lib.Routing.Ops
public import Idealize.ShloMosaic.Lib.ReduceAll

@[expose] public section

noncomputable section

namespace Cert.Pos

open Idealize.ShloMosaic Idealize.ShloMosaic.ValueIdx

variable {F : FTy → Type} [FloatOps F]

abbrev Rows : Shape := ⟨2, ![64, 512]⟩
abbrev Cols : Shape := ⟨2, ![48, 512]⟩
abbrev Out : Shape := ⟨4, ![16, 64, 48, 512]⟩

/-- The position encoding: at (b, h, w, d), row embedding (h, d) plus column embedding (w, d), the same for each b. -/
def posSum (row : Vec F Rows .f32) (col : Vec F Cols .f32) : Vec F Out .f32 := fun i =>
  FloatOps.addf (row (ix2 (n0 := 64) (n1 := 512) (i 1) (i 3))) (col (ix2 (n0 := 48) (n1 := 512) (i 2) (i 3)))

/-- A small natural, as a 32-bit word read as a signed number, is itself. -/
theorem toInt_small {n : Nat} (h : n < 2 ^ 31) : (BitVec.ofNat 32 n).toInt = n := by
  have e : (BitVec.ofNat 32 n).toNat = n := by rw [BitVec.toNat_ofNat]; omega
  rw [BitVec.toInt_eq_toNat_of_lt (by rw [e]; omega), e]

section Take

variable {N D : Nat}

/-- The column of row numbers that `jnp.take` is given: 0, 1, …, where a negative number would have `wrap` added. -/
abbrev rowIdx (N : Nat) (b0 : (⟨0, ![]⟩ : Shape).BroadcastsInDim ⟨1, ![N]⟩ ![])
    (b1 : (⟨1, ![N]⟩ : Shape).BroadcastsInDim ⟨2, ![N, 1]⟩ (![0] : Fin 1 → Fin 2)) (wrap : BitVec 32) : IVec ⟨2, ![N, 1]⟩ 32 :=
  broadcastInDim ⟨2, ![N, 1]⟩ ![0] b1 (select
    (cmpi .slt (iotaInDim ⟨1, ![N]⟩ 32 0) (broadcastInDim ⟨1, ![N]⟩ ![] b0 (constantI ⟨0, ![]⟩ 32 0#32)))
    (addi (iotaInDim ⟨1, ![N]⟩ 32 0) (broadcastInDim ⟨1, ![N]⟩ ![] b0 (constantI ⟨0, ![]⟩ 32 wrap)))
    (iotaInDim ⟨1, ![N]⟩ 32 0))

/-- No number of that column is negative, so its entry at row r is r. -/
theorem rowIdx_apply (hN : N < 2 ^ 31) (b0 b1) (wrap : BitVec 32) (k : (⟨2, ![N, 1]⟩ : Shape).Idx) :
    rowIdx N b0 b1 wrap k = BitVec.ofNat 32 (k 0).val := by
  have hk : (k 0).val < N := (k 0).isLt
  refine (broadcastInDim_apply (t := ⟨2, ![N, 1]⟩) _ b1 _ k (ix1 ⟨(k 0).val, hk⟩) fun a => ?_).trans ?_
  · match a with
    | ⟨0, _⟩ =>
      show (k 0).val = if N = 1 then 0 else (k 0).val
      split <;> omega
  · have hneg : IntOp.cmpi .slt (BitVec.ofNat 32 (k 0).val) 0#32 ≠ 1#1 := by
      rw [ne_eq, IntOp.cmpi_slt, toInt_small (by omega)]
      simp
    exact if_neg hneg

/-- `jnp.take(x, jnp.arange(N), axis=0)` of an array of N rows is the array: every row number is in range, so no row is
    replaced by `fill`, and row r of the result is row r of `x`. -/
theorem take_arange {α : Type} (hN : N < 2 ^ 31) (b0 b1)
    (b2 : (⟨0, ![]⟩ : Shape).BroadcastsInDim ⟨2, ![N, 1]⟩ ![])
    (b3 : (⟨1, ![1]⟩ : Shape).BroadcastsInDim ⟨2, ![1, 1]⟩ (![1] : Fin 1 → Fin 2))
    (b4 : (⟨2, ![1, 1]⟩ : Shape).BroadcastsInDim ⟨2, ![N, 1]⟩ (![0, 1] : Fin 2 → Fin 2))
    (b5 : (⟨1, ![N]⟩ : Shape).BroadcastsInDim ⟨2, ![N, D]⟩ (![0] : Fin 1 → Fin 2))
    (hr : (⟨2, ![N, 1]⟩ : Shape).ReducesTo [1] ⟨1, ![N]⟩) (hu : 0 < (⟨0, ![]⟩ : Shape).numel)
    (d : GatherDims ⟨2, ![N, D]⟩ ⟨2, ![N, 1]⟩ ⟨2, ![N, D]⟩) (hoff : d.offsetDims = [1]) (hcoll : d.collapsedSliceDims = [0])
    (hob : d.operandBatchingDims = []) (hsim : d.startIndexMap = [0]) (hivd : d.indexVectorDim = 1)
    (wrap last : BitVec 32) (hlast : last.toInt = (N : Int) - 1) (x fill : (⟨2, ![N, D]⟩ : Shape).Idx → α) :
    select (broadcastInDim ⟨2, ![N, D]⟩ ![0] b5 (Host.reduce IntOp.andi
        (andi (cmpi .sge (rowIdx N b0 b1 wrap) (broadcastInDim ⟨2, ![N, 1]⟩ ![] b2 (constantI ⟨0, ![]⟩ 32 0#32)))
          (cmpi .sle (rowIdx N b0 b1 wrap) (broadcastInDim ⟨2, ![N, 1]⟩ ![0, 1] b4 (broadcastInDim ⟨2, ![1, 1]⟩ ![1] b3 (constantI ⟨1, ![1]⟩ 32 last)))))
        (constantI ⟨0, ![]⟩ 1 1#1) hr hu))
      (Host.gather d x (rowIdx N b0 b1 wrap)) fill = x := by
  funext j
  have hj : (j 0).val < N := (j 0).isLt
  have hin : ∀ r : (⟨1, ![N]⟩ : Shape).Idx, Host.reduce IntOp.andi
        (andi (cmpi .sge (rowIdx N b0 b1 wrap) (broadcastInDim ⟨2, ![N, 1]⟩ ![] b2 (constantI ⟨0, ![]⟩ 32 0#32)))
          (cmpi .sle (rowIdx N b0 b1 wrap) (broadcastInDim ⟨2, ![N, 1]⟩ ![0, 1] b4 (broadcastInDim ⟨2, ![1, 1]⟩ ![1] b3 (constantI ⟨1, ![1]⟩ 32 last)))))
        (constantI ⟨0, ![]⟩ 1 1#1) hr hu r = 1#1 := fun r =>
    Host.reduce_andi_one _ _ hr hu r rfl fun k => by
      have hk : (k 0).val < N := (k 0).isLt
      have e := rowIdx_apply hN b0 b1 wrap k
      have hge : IntOp.cmpi .sge (rowIdx N b0 b1 wrap k) 0#32 = 1#1 := by
        rw [e, IntOp.cmpi_sge, toInt_small (n := (k 0).val) (by omega)]; simp
      have hle : IntOp.cmpi .sle (rowIdx N b0 b1 wrap k) last = 1#1 := by
        rw [e, IntOp.cmpi_sle, toInt_small (by omega), hlast]; omega
      show IntOp.andi (IntOp.cmpi .sge (rowIdx N b0 b1 wrap k) 0#32) (IntOp.cmpi .sle (rowIdx N b0 b1 wrap k) last) = 1#1
      rw [hge, hle]; rfl
  refine (if_pos (hin _)).trans ?_
  have hrow : (ix2 (n0 := N) (n1 := D) (j 0) (j 1) : (⟨2, ![N, D]⟩ : Shape).Idx) = j := by
    funext a; match a with | ⟨0, _⟩ => rfl | ⟨1, _⟩ => rfl
  exact (congrArg (Host.gather d x _) hrow.symm).trans
    ((Routing.gather_row d hoff hcoll hob hsim hivd x _ (j 0) (j 1) (j 0) (rowIdx_apply hN b0 b1 wrap _) hN).trans
      (congrArg x hrow))

end Take

/-- The row table repeated along the columns, plus the column table repeated along the rows, repeated for each batch
    element, is `posSum` of the tables. -/
theorem bcast_sum (r1 : Rows.BroadcastsInDim ⟨3, ![64, 1, 512]⟩ (![0, 2] : Fin 2 → Fin 3))
    (r2 : (⟨3, ![64, 1, 512]⟩ : Shape).BroadcastsInDim ⟨3, ![64, 48, 512]⟩ (![0, 1, 2] : Fin 3 → Fin 3))
    (c1 : Cols.BroadcastsInDim ⟨3, ![1, 48, 512]⟩ (![1, 2] : Fin 2 → Fin 3))
    (c2 : (⟨3, ![1, 48, 512]⟩ : Shape).BroadcastsInDim ⟨3, ![64, 48, 512]⟩ (![0, 1, 2] : Fin 3 → Fin 3))
    (o1 : (⟨3, ![64, 48, 512]⟩ : Shape).BroadcastsInDim ⟨4, ![1, 64, 48, 512]⟩ (![1, 2, 3] : Fin 3 → Fin 4))
    (o2 : (⟨4, ![1, 64, 48, 512]⟩ : Shape).BroadcastsInDim Out (![0, 1, 2, 3] : Fin 4 → Fin 4))
    (row : Vec F Rows .f32) (col : Vec F Cols .f32) :
    broadcastInDim Out ![0, 1, 2, 3] o2 (broadcastInDim ⟨4, ![1, 64, 48, 512]⟩ ![1, 2, 3] o1
      (addf (broadcastInDim ⟨3, ![64, 48, 512]⟩ ![0, 1, 2] r2 (broadcastInDim ⟨3, ![64, 1, 512]⟩ ![0, 2] r1 row))
        (broadcastInDim ⟨3, ![64, 48, 512]⟩ ![0, 1, 2] c2 (broadcastInDim ⟨3, ![1, 48, 512]⟩ ![1, 2] c1 col)))) = posSum row col := by
  funext i
  unfold posSum broadcastInDim addf
  refine congr (congrArg _ (congrArg row ?_)) (congrArg col ?_) <;>
  · funext a
    match a with
    | ⟨0, _⟩ => rfl
    | ⟨1, _⟩ => rfl

end Cert.Pos

end
-- ==== Proof.KernelIdealValue.lean ====
/- What the kernel's result array holds, for any float values: `posSum` of the two tables. Each of the 16 grid points
   reads the whole of both tables and writes one batch element, and the 16 blocks fill the array.
   This module is about the program `KernelIdeal`, the same text under its own name. -/
module

public import proofs.«01_k».proof.Proof.PosSum
public import proofs.«01_k».proof.Proof.Gen.KernelIdeal.Value

@[expose] public section

noncomputable section

open Idealize.ShloMosaic Idealize.ShloMosaic.TcCoe Idealize.SL.Sem Idealize.ShloMosaic.ValueIdx
open Idealize.ShloMosaic.Pipeline (Dat)

namespace Cert.Pos.KerIdeal

open Cert.KernelIdeal Cert.KernelIdeal.Gen

variable {F : FTy → Type} [FloatOps F]
variable (m : (ℓ : Loc nD τ sig) → Buf (Elt F) ℓ) (ρ : Dev nD → PrngReg)

/-- Where the three windows stand at point `t` of the 1 × 16 grid: the tables' at their origin, the result's at batch
    element `t`, which is the array's block number `t` on axis 0 and 0 on the others. -/
theorem index_facts : ∀ t : Fin cfg0.N, (∀ a, win0_0.index t a = 0) ∧ (∀ a, win0_1.index t a = 0)
    ∧ win0_2.index t 0 = t.val ∧ win0_2.index t 1 = 0 ∧ win0_2.index t 2 = 0 ∧ win0_2.index t 3 = 0 :=
  (by decide +kernel : ∀ t : Fin grid0.N, (∀ a, win0_0.index t a = 0) ∧ (∀ a, win0_1.index t a = 0)
    ∧ win0_2.index t 0 = t.val ∧ win0_2.index t 1 = 0 ∧ win0_2.index t 2 = 0 ∧ win0_2.index t 3 = 0)

/-- The row table's block is the whole row table, at every point, -/
theorem row_block (c : Dev nD) (t : Fin cfg0.N) : iblk m c 0 t = m ((c : Thread nD τ).loc main_arg1) := by
  funext k
  show m ((c : Thread nD τ).loc main_arg1) ((win0_0.rect t).emb k) = _
  refine congrArg _ (funext fun a => Fin.ext ?_)
  exact win0_0.rect_emb_val_of_index_zero t a ((index_facts t).1 a) k

/-- and the column table's block the whole column table. -/
theorem col_block (c : Dev nD) (t : Fin cfg0.N) : iblk m c 1 t = m ((c : Thread nD τ).loc main_arg2) := by
  funext k
  show m ((c : Thread nD τ).loc main_arg2) ((win0_1.rect t).emb k) = _
  refine congrArg _ (funext fun a => Fin.ext ?_)
  exact win0_1.rect_emb_val_of_index_zero t a ((index_facts t).2.1 a) k

/-- The body's one store leaves row table (h, d) plus column table (w, d) at entry (0, h, w, d) of the staging buffer. -/
theorem body_apply (row : Vec F S64x512 .f32) (col : Vec F S48x512 .f32) (y : S1x64x48x512.Idx) :
    out0_2 row col y = FloatOps.addf (row (ix2 (n0 := 64) (n1 := 512) (y 1) (y 3))) (col (ix2 (n0 := 48) (n1 := 512) (y 2) (y 3))) := by
  have hz : (![0, 0] : Fin 2 → Nat) = fun _ => 0 := funext fun a => by fin_cases a <;> rfl
  unfold out0_2
  rw [Cert.KernelIdeal.Value.canon2_eq, View.ld_unit_zero hz, View.ld_unit_zero hz]
  refine congr (congrArg _ (congrArg row ?_)) (congrArg col ?_) <;>
  · funext a
    match a with
    | ⟨0, _⟩ => rfl
    | ⟨1, _⟩ => rfl

/-- What point `t` writes back is its block of `posSum` of the tables: the sum does not depend on the batch element. -/
theorem flushed_eq (c : Dev nD) (t : Fin cfg0.N) : (dats m 0 c).flushed 2 t
    = ((cfg0.win 2).blk t).view.read (Elt F) (posSum (m ((c : Thread nD τ).loc main_arg1)) (m ((c : Thread nD τ).loc main_arg2))) := by
  rw [Cert.KernelIdeal.Value.flushed2, row_block, col_block]
  funext y
  show out0_2 _ _ y = posSum _ _ ((win0_2.rect t).emb y)
  rw [body_apply]
  obtain ⟨-, -, -, h1, h2, h3⟩ := index_facts t
  have e (a : Fin 4) (h : win0_2.index t a = 0) : ((win0_2.rect t).emb y a : Nat) = y a :=
    win0_2.rect_emb_val_of_index_zero t a h y
  unfold posSum
  refine congr (congrArg _ (congrArg _ (funext fun a => Fin.ext ?_))) (congrArg _ (funext fun a => Fin.ext ?_))
  · match a with
    | ⟨0, _⟩ => exact (e 1 h1).symm
    | ⟨1, _⟩ => exact (e 3 h3).symm
  · match a with
    | ⟨0, _⟩ => exact (e 2 h2).symm
    | ⟨1, _⟩ => exact (e 3 h3).symm

/-- Entry (b, h, w, d) of the result is in the block of point `b`. -/
theorem cover (i : S16x64x48x512.Idx) :
    ∃ t : Fin cfg0.N, (cfg0.win 2).flush t = true ∧ i ∈ ((cfg0.win 2).blk t).view.set := by
  have hN : cfg0.N = 16 := N_0
  have b0 : (i 0 : Nat) < 16 := (i 0).isLt
  have b1 : (i 1 : Nat) < 64 := (i 1).isLt
  have b2 : (i 2 : Nat) < 48 := (i 2).isLt
  have b3 : (i 3 : Nat) < 512 := (i 3).isLt
  have ht : (i 0 : Nat) < cfg0.N := by omega
  refine ⟨⟨(i 0).val, ht⟩, flush0_2 _, ?_⟩
  obtain ⟨-, -, h0, h1, h2, h3⟩ := index_facts ⟨(i 0).val, ht⟩
  show i ∈ ((View.whole main_v0).slice (win0_2.rect ⟨(i 0).val, ht⟩)).set
  rw [View.set_slice_whole, Rect.mem_set_unit]
  intro a
  match a with
  | ⟨0, _⟩ =>
    show win0_2.index _ 0 * 1 ≤ (i 0 : Nat) ∧ (i 0 : Nat) < win0_2.index _ 0 * 1 + 1
    rw [h0]; dsimp only; omega
  | ⟨1, _⟩ =>
    show win0_2.index _ 1 * 64 ≤ (i 1 : Nat) ∧ (i 1 : Nat) < win0_2.index _ 1 * 64 + 64
    rw [h1]; omega
  | ⟨2, _⟩ =>
    show win0_2.index _ 2 * 48 ≤ (i 2 : Nat) ∧ (i 2 : Nat) < win0_2.index _ 2 * 48 + 48
    rw [h2]; omega
  | ⟨3, _⟩ =>
    show win0_2.index _ 3 * 512 ≤ (i 3 : Nat) ∧ (i 3 : Nat) < win0_2.index _ 3 * 512 + 512
    rw [h3]; omega

/-- Every run of the kernel ends with its result at `posSum` of the two tables and its arguments unchanged. -/
theorem run : θ_run defs (onTc (τ := τ) (main (F := F))) ⟨m, fun _ => 0, ρ⟩ fun r => ∀ c : Dev nD,
      r.2.mem ((c : Thread nD τ).loc main_v0)
        = posSum (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨(h c).1.trans ((dats m 0 c).arrAt_eq_of_cover 2 _ (fun t _ => flushed_eq m c t) cover), (h c).2⟩)
    (Cert.KernelIdeal.Value.run_blocks m ρ)

end Cert.Pos.KerIdeal

end
-- ==== Proof.RefValue.lean ====
/- What the reference's result array holds, for any float values: `posSum` of the two tables. The two host programs
   `Reference` and `ReferenceIdeal` are one text, read once at each name. -/
module

public import proofs.«01_k».proof.Proof.PosSum
public import proofs.«01_k».proof.Proof.Gen.Reference.Run
public import proofs.«01_k».proof.Proof.Gen.ReferenceIdeal.Run

@[expose] public section

noncomputable section

open Idealize.ShloMosaic Idealize.ShloMosaic.TcCoe Idealize.SL.Sem

namespace Cert.Pos.Ref

open Cert.Reference Cert.Reference.Gen

variable {F : FTy → Type} [FloatOps F]

/-- Every run of the reference ends with its result at `posSum` of the two tables and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
        = posSum (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
      refine (bcast_sum _ _ _ _ _ _ _ _).trans (congr (congrArg posSum ?_) ?_)
      · exact take_arange (N := 64) (by omega) _ _ _ _ _ _ _ _ _ rfl rfl rfl rfl rfl _ _ (by decide) _ _
      · exact take_arange (N := 48) (by omega) _ _ _ _ _ _ _ _ _ rfl rfl rfl rfl rfl _ _ (by decide) _ _), (h c).2⟩)
    (Cert.Reference.Value.run (F := F) m ρ)

end Cert.Pos.Ref

namespace Cert.Pos.RefIdeal

open Cert.ReferenceIdeal Cert.ReferenceIdeal.Gen

variable {F : FTy → Type} [FloatOps F]

/-- The same of the idealized reference. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
        = posSum (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
      refine (bcast_sum _ _ _ _ _ _ _ _).trans (congr (congrArg posSum ?_) ?_)
      · exact take_arange (N := 64) (by omega) _ _ _ _ _ _ _ _ _ rfl rfl rfl rfl rfl _ _ (by decide) _ _
      · exact take_arange (N := 48) (by omega) _ _ _ _ _ _ _ _ _ rfl rfl rfl rfl rfl _ _ (by decide) _ _), (h c).2⟩)
    (Cert.ReferenceIdeal.Value.run (F := F) m ρ)

end Cert.Pos.RefIdeal

end
-- ==== Proof.lean ====
/- The certificate: the frames of the four programs, the kernel's idealization, and the two value claims. Both sides of
   each value claim end at `Cert.Pos.posSum` of the two tables (Proof/PosSum.lean), by Proof/KernelValue.lean,
   Proof/KernelIdealValue.lean and Proof/RefValue.lean. -/
module

public import proofs.«01_k».proof.Defs
public import proofs.«01_k».proof.Proof.Gen.Kernel.Frame
public import proofs.«01_k».proof.Proof.Gen.KernelIdeal.Frame
public import proofs.«01_k».proof.Proof.Gen.Kernel.Value
public import proofs.«01_k».proof.Proof.Gen.KernelIdeal.Value
public import proofs.«01_k».proof.Proof.Gen.Reference.Run
public import proofs.«01_k».proof.Proof.Gen.ReferenceIdeal.Run
public import proofs.«01_k».proof.Proof.KernelValue
public import proofs.«01_k».proof.Proof.KernelIdealValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates without fault, its arguments unchanged; it declares no semaphore, so every counter is zero. -/
theorem frame_reference : Cert.quiescent_Reference := fun m ρ _ =>
  (θ_run Cert.Reference.defs _ _).mono (fun r h => ⟨fun c => (h c).2, sem_eq_zero_of_no_sems (by decide) r.2⟩)
    (Cert.Pos.Ref.run (F := Bits) m ρ)

/-- So does the reference over the extended reals. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.Pos.RefIdeal.run (F := Ideal) m ρ)

/-- Over the extended reals, kernel and reference end at one array, `posSum` of the tables they were both given. -/
theorem algebraic : Cert.algebraic_KernelIdeal_ReferenceIdeal := by
  intro m ρ m' ρ' _ hagree
  refine ⟨fun c => Cert.Pos.posSum _ _, Cert.Pos.KerIdeal.run (F := Ideal) m ρ, ?_⟩
  exact (θ_run Cert.ReferenceIdeal.defs _ _).mono
    (fun _ h c => ⟨(h c).1.trans (congr (congrArg Cert.Pos.posSum (hagree c).2.1) (hagree c).2.2), (h c).2⟩)
    (Cert.Pos.RefIdeal.run (F := Ideal) m' ρ')

/-- And so they do word by word, whatever the float addition of two words is. -/
theorem bitexact : Cert.bitexact_Kernel_Reference := by
  intro m ρ m' ρ' _ hagree
  refine ⟨fun c => Cert.Pos.posSum _ _, Cert.Pos.Ker.run (F := Bits) m ρ, ?_⟩
  exact (θ_run Cert.Reference.defs _ _).mono
    (fun _ h c => ⟨(h c).1.trans (congr (congrArg Cert.Pos.posSum (hagree c).2.1) (hagree c).2.2), (h c).2⟩)
    (Cert.Pos.Ref.run (F := Bits) m' ρ')

/-- The certificate's claim. -/
theorem claim : Cert.Claim :=
  ⟨Cert.Kernel.Gen.facts, Cert.KernelIdeal.Gen.facts, Cert.ReferenceIdeal.Gen.facts, Cert.Reference.Gen.facts,
    fun m ρ _ => Cert.Kernel.Gen.frame m ρ, fun m ρ _ => Cert.KernelIdeal.Gen.frame m ρ,
    frame_reference_ideal, frame_reference, trivial, algebraic, bitexact⟩

end Cert.Proof

end
